-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S100000 : Shape := ⟨1, ![100000]⟩
abbrev S50x1x2000 : Shape := ⟨3, ![50, 1, 2000]⟩
abbrev S1x128 : Shape := ⟨2, ![1, 128]⟩
abbrev S256x128 : Shape := ⟨2, ![256, 128]⟩
abbrev S2000x128 : Shape := ⟨2, ![2000, 128]⟩
abbrev S1x1x2000 : Shape := ⟨3, ![1, 1, 2000]⟩
abbrev S256x8 : Shape := ⟨2, ![256, 8]⟩
abbrev S1x2000 : Shape := ⟨2, ![1, 2000]⟩
abbrev S1x1x128 : Shape := ⟨3, ![1, 1, 128]⟩
abbrev S1 : Shape := ⟨1, ![1]⟩
abbrev S1x1x1 : Shape := ⟨3, ![1, 1, 1]⟩
abbrev S256x2000 : Shape := ⟨2, ![256, 2000]⟩
abbrev S256x1 : Shape := ⟨2, ![256, 1]⟩
abbrev S256 : Shape := ⟨1, ![256]⟩

abbrev nBuf : Space → Nat
  | .hbm => 9
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S100000, .i32⟩
  | .hbm, ⟨5, _⟩ => ⟨S50x1x2000, .i32⟩
  | .hbm, ⟨6, _⟩ => ⟨S1x128, .f32⟩
  | .hbm, ⟨7, _⟩ => ⟨S1x128, .f32⟩
  | .hbm, ⟨8, _⟩ => ⟨S256x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x1x2000, .i32⟩
  | .local _ .vmem, ⟨6, _⟩ => ⟨S1x1x2000, .i32⟩
  | .local _ .vmem, ⟨7, _⟩ => ⟨S256x128, .f32⟩
  | .local _ .vmem, ⟨8, _⟩ => ⟨S256x128, .f32⟩
  | .local _ .vmem, ⟨9, _⟩ => ⟨S256x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v45 : BitVec 1 := Scalar.cmpi .eq arg0 c49_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S100000 : Shape := ⟨1, ![100000]⟩
abbrev S1x128 : Shape := ⟨2, ![1, 128]⟩
abbrev S100000x1 : Shape := ⟨2, ![100000, 1]⟩
abbrev S256 : Shape := ⟨1, ![256]⟩
abbrev S1x256 : Shape := ⟨2, ![1, 256]⟩
abbrev S100000x256 : Shape := ⟨2, ![100000, 256]⟩
abbrev S_ : Shape := ⟨0, ![]⟩
abbrev S256x1 : Shape := ⟨2, ![256, 1]⟩
abbrev S256x128 : Shape := ⟨2, ![256, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S100000, .i32⟩
  | .hbm, ⟨5, _⟩ => ⟨S100000x128, .f32⟩
  | .hbm, ⟨6, _⟩ => ⟨S1x128, .f32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S100000x1, .f32⟩
  | .hbm, ⟨11, _⟩ => ⟨S100000x1, .i32⟩
  | .hbm, ⟨12, _⟩ => ⟨S256, .i32⟩
  | .hbm, ⟨13, _⟩ => ⟨S1x256, .i32⟩
  | .hbm, ⟨14, _⟩ => ⟨S100000x256, .i32⟩
  | .hbm, ⟨15, _⟩ => ⟨S100000x256, .i32⟩
  | .hbm, ⟨16, _⟩ => ⟨S100000x256, .i1⟩
  | .hbm, ⟨17, _⟩ => ⟨S_, .f32⟩
  | .hbm, ⟨18, _⟩ => ⟨S_, .f32⟩
  | .hbm, ⟨19, _⟩ => ⟨S100000x256, .f32⟩
  | .hbm, ⟨20, _⟩ => ⟨S100000x256, .f32⟩
  | .hbm, ⟨21, _⟩ => ⟨S100000x256, .f32⟩
  | .hbm, ⟨22, _⟩ => ⟨S_, .f32⟩
  | .hbm, ⟨23, _⟩ => ⟨S256, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .i1⟩
  | .hbm, ⟨29, _⟩ => ⟨S_, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .i32⟩
  | .hbm, ⟨34, _⟩ => ⟨S100000, .i32⟩
  | .hbm, ⟨35, _⟩ => ⟨S100000, .i1⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S100000, .i32⟩
  | .hbm, ⟨40, _⟩ => ⟨S100000x1, .i32⟩
  | .hbm, ⟨41, _⟩ => ⟨S100000x1, .f32⟩
  | .hbm, ⟨42, _⟩ => ⟨S100000x1, .f32⟩
  | .hbm, ⟨43, _⟩ => ⟨S100000x1, .f32⟩
  | .hbm, ⟨44, _⟩ => ⟨S_, .f32⟩
  | .hbm, ⟨45, _⟩ => ⟨S256x1, .f32⟩
  | .hbm, ⟨46, _⟩ => ⟨S100000x1, .i32⟩
  | .hbm, ⟨47, _⟩ => ⟨S256x1, .f32⟩
  | .hbm, ⟨48, _⟩ => ⟨S128x1, .f32⟩
  | .hbm, ⟨49, _⟩ => ⟨S_, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .i32⟩
  | .hbm, ⟨58, _⟩ => ⟨S100000, .i32⟩
  | .hbm, ⟨59, _⟩ => ⟨S100000, .i1⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S100000, .i32⟩
  | .hbm, ⟨64, _⟩ => ⟨S100000x1, .i32⟩
  | .hbm, ⟨65, _⟩ => ⟨S100000x1, .f32⟩
  | .hbm, ⟨66, _⟩ => ⟨S_, .i32⟩
  | .hbm, ⟨67, _⟩ => ⟨S100000, .i32⟩
  | .hbm, ⟨68, _⟩ => ⟨S100000, .i1⟩
  | .hbm, ⟨69, _⟩ => ⟨S_, .i32⟩
  | .hbm, ⟨70, _⟩ => ⟨S100000, .i32⟩
  | .hbm, ⟨71, _⟩ => ⟨S100000, .i32⟩
  | .hbm, ⟨72, _⟩ => ⟨S100000, .i32⟩
  | .hbm, ⟨73, _⟩ => ⟨S100000x1, .i32⟩
  | .hbm, ⟨74, _⟩ => ⟨S100000x1, .f32⟩
  | .hbm, ⟨75, _⟩ => ⟨S100000x1, .f32⟩
  | .hbm, ⟨76, _⟩ => ⟨S100000x1, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S256x128, .f32⟩
  | .hbm, ⟨83, _⟩ => ⟨S100000x1, .i32⟩
  | .hbm, ⟨84, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Pool.Block.lean ====
module

public import proofs.«01_k».proof.Proof.Gen.KernelIdeal.Value
public import Idealize.ShloMosaic.Lib.Pointwise

@[expose] public section

/-! # The kernel's payloads at one entry

One point of the sweep takes 2000 nodes.  The theorems here read, at one entry, what the body computes from the
blocks it holds: the mask-weighted exponentials, their addition to the two accumulators, and the last quotient. -/

namespace Cert.Pool

open Cert.KernelIdeal Cert.KernelIdeal.Gen Idealize.ShloMosaic Idealize.ShloMosaic.TcCoe Idealize.SL.Sem
open scoped BigOperators

/-- The numerator accumulator at graph `g`, lane `d`, gains the weighted sum of the block's rows. -/
theorem num_apply (x : S2000x128.Idx → EReal) (w2 : S1x128.Idx → EReal) (W1 : S128x128.Idx → EReal)
    (b1 : S1x128.Idx → EReal) (bt : S1x1x2000.Idx → BitVec 32) (acc : S256x128.Idx → EReal) (g : Fin 256)
    (d : Fin 128) :
    k0_pay1 (F := Ideal) (k0_pay7 (F := Ideal) x w2 W1 b1 bt acc) (ix2 g d)
      = acc (ix2 g d) + ∑ k : Fin 2000, k0_pay6 (F := Ideal) x w2 W1 b1 bt (ix2 g k) * x (ix2 k d) := by
  unfold k0_pay1 k0_pay7
  pointwise

/-- The denominator accumulator's first column at graph `g` gains the sum of the block's weights. -/
theorem den_apply (P : S256x2000.Idx → EReal) (v : S256x1.Idx → EReal) (g : Fin 256) :
    k0_pay2 (F := Ideal) P v (ix2 g 0) = v (ix2 g 0) + ∑ r : Fin 2000, P (ix2 g r) := by
  unfold k0_pay2
  pointwise

/-- The stored quotient at graph `g`, lane `d`. -/
theorem quot_apply (P : S256x128.Idx → EReal) (v : S256x1.Idx → EReal) (g : Fin 256) (d : Fin 128) :
    k0_pay3 (F := Ideal) P v (ix2 g d)
      = Ideal.div (P (ix2 g d)) (v (ix2 g 0) + Ideal.ofBits .f32 0x24E69595#32) := by
  unfold k0_pay3
  pointwise

/-- The weight of the block's node `r` for graph `g`: its exponential when the node carries that number, else 0. -/
theorem weight_apply (x : S2000x128.Idx → EReal) (w2 : S1x128.Idx → EReal) (W1 : S128x128.Idx → EReal)
    (b1 : S1x128.Idx → EReal) (bt : S1x1x2000.Idx → BitVec 32) (g : Fin 256) (r : Fin 2000) :
    k0_pay6 (F := Ideal) x w2 W1 b1 bt (ix2 g r)
      = if bt (ix3 0 0 r) = BitVec.ofNat 32 g.val then
          Ideal.exp ((∑ k : Fin 128, w2 (ix2 0 k)
              * Ideal.tanh ((∑ j : Fin 128, x (ix2 r j) * W1 (ix2 j k)) + b1 (ix2 0 k)))
            - ∑ k : Fin 128, max (w2 (ix2 0 k)) (-w2 (ix2 0 k)))
        else 0 := by
  have h : k0_pay6 (F := Ideal) x w2 W1 b1 bt (ix2 g r)
      = Scalar.select (IntOp.cmpi .eq (bt (ix3 0 0 r)) (BitVec.ofNat 32 g.val))
          (Ideal.exp ((∑ k : Fin 128, w2 (ix2 0 k)
              * Ideal.tanh ((∑ j : Fin 128, x (ix2 r j) * W1 (ix2 j k)) + b1 (ix2 0 k)))
            - ∑ _u : Fin 1, ∑ k : Fin 128, max (w2 (ix2 0 k)) (-w2 (ix2 0 k)))) (0 : EReal) := by
    unfold k0_pay6
    pointwise
    try rfl
  rw [h, Fin.sum_univ_one]
  by_cases hb : bt (ix3 0 0 r) = BitVec.ofNat 32 g.val
  · have hc : IntOp.cmpi .eq (bt (ix3 0 0 r)) (BitVec.ofNat 32 g.val) = 1#1 := by
      rw [hb]; simp [IntOp.cmpi]
    rw [hc, if_pos hb]; rfl
  · have hc : IntOp.cmpi .eq (bt (ix3 0 0 r)) (BitVec.ofNat 32 g.val) = 0#1 := by
      simp only [IntOp.cmpi, beq_eq_false_iff_ne.mpr hb]; rfl
    rw [hc, if_neg hb]; rfl

/-- Both accumulators start from zero. -/
theorem zeroNum_apply (i : S256x128.Idx) : k0_pay4 (F := Ideal) i = 0 := by
  rw [← ix2_eta i]
  unfold k0_pay4
  pointwise

/-- The denominator accumulator starts from zero. -/
theorem zeroDen_apply (i : S256x8.Idx) : k0_pay5 (F := Ideal) i = 0 := by
  rw [← ix2_eta i]
  unfold k0_pay5
  pointwise

end Cert.Pool
-- ==== Proof.Pool.Inputs.lean ====
module

public import proofs.«01_k».proof.Proof.Gen.KernelIdeal.Value
public import Idealize.ShloMosaic.Lib.Pointwise

@[expose] public section

/-! # The blocks the kernel reads, as entries of the arguments -/

namespace Cert.Pool

open Cert.KernelIdeal Cert.KernelIdeal.Gen Idealize.ShloMosaic Idealize.ShloMosaic.TcCoe Idealize.SL.Sem
open scoped BigOperators

variable (m : (ℓ : Loc nD τ sig) → Buf (Elt Ideal) ℓ)

/-- The region finds the graph numbers reshaped to fifty rows of 2000. -/
theorem V_batch (c : Dev nD) :
    V m c main_v0 = shapeCast S50x1x2000 (m ((c : Thread nD τ).loc main_arg4)) shapeCasts_S100000_S50x1x2000 := by
  unfold V
  after_results
  rfl

/-- The region finds the bias reshaped to a row. -/
theorem V_bias (c : Dev nD) :
    V m c main_v1 = shapeCast S1x128 (m ((c : Thread nD τ).loc main_arg2)) shapeCasts_S128_S1x128 := by
  unfold V
  after_results
  rfl

/-- The region finds the second weight column reshaped to a row. -/
theorem V_w2 (c : Dev nD) :
    V m c main_v2 = shapeCast S1x128 (m ((c : Thread nD τ).loc main_arg3)) shapeCasts_S128x1_S1x128 := by
  unfold V
  after_results
  rfl

/-- A list of 100000 entries laid out as fifty rows of 2000: entry `r` of row `t` is entry `2000 t + r` of the list. -/
theorem rows_apply (X : S100000.Idx → BitVec 32) (t : Fin 50) (r : Fin 2000) (n : Fin 100000)
    (hn : n.val = t.val * 2000 + r.val) :
    shapeCast S50x1x2000 X shapeCasts_S100000_S50x1x2000 (ix3 t 0 r) = X (ix1 n) := by
  refine shapeCast_apply X _ _ _ ?_
  rw [Shape.rowMajor_val_three, Shape.rowMajor_val_one]
  show n.val = (t.val * 1 + 0) * 2000 + r.val
  omega

/-- Window 0's block at point `t` starts at row `2000 t`. -/
theorem index0 : ∀ t : Fin cfg0.N, win0_0.index t (0 : Fin 2) = t.val ∧ win0_0.index t (1 : Fin 2) = 0 :=
  (by decide +kernel : ∀ t : Fin grid0.N, _)

/-- Window 1 stays at the origin. -/
theorem index1 : ∀ t : Fin cfg0.N, win0_1.index t (0 : Fin 2) = 0 ∧ win0_1.index t (1 : Fin 2) = 0 :=
  (by decide +kernel : ∀ t : Fin grid0.N, _)

/-- Window 2 stays at the origin. -/
theorem index2 : ∀ t : Fin cfg0.N, win0_2.index t (0 : Fin 2) = 0 ∧ win0_2.index t (1 : Fin 2) = 0 :=
  (by decide +kernel : ∀ t : Fin grid0.N, _)

/-- Window 3 stays at the origin. -/
theorem index3 : ∀ t : Fin cfg0.N, win0_3.index t (0 : Fin 2) = 0 ∧ win0_3.index t (1 : Fin 2) = 0 :=
  (by decide +kernel : ∀ t : Fin grid0.N, _)

/-- Window 4's block at point `t` is row `t`. -/
theorem index4 : ∀ t : Fin cfg0.N, win0_4.index t (0 : Fin 3) = t.val ∧ win0_4.index t (1 : Fin 3) = 0
    ∧ win0_4.index t (2 : Fin 3) = 0 :=
  (by decide +kernel : ∀ t : Fin grid0.N, _)

/-- Row `r` of the feature block at point `t` is the feature row of node `n = 2000 t + r`. -/
theorem x_apply (c : Dev nD) (t : Fin cfg0.N) (r : Fin 2000) (d : Fin 128) (n : Fin 100000)
    (hn : n.val = t.val * 2000 + r.val) :
    iblk m c 0 t (ix2 r d) = m ((c : Thread nD τ).loc main_arg0) (ix2 n d) := by
  rw [← V_main_arg0 m c]
  show V m c main_arg0 (((cfg0.win 0).blk t).view.emb (ix2 r d)) = _
  obtain ⟨e0, e1⟩ := index0 t
  congr 1
  funext a
  apply Fin.ext
  match a with
  | ⟨0, _⟩ =>
    show win0_0.index t (0 : Fin 2) * 2000 + 1 * r.val = n.val
    omega
  | ⟨1, _⟩ =>
    show win0_0.index t (1 : Fin 2) * 128 + 1 * d.val = d.val
    omega

/-- The first weight matrix is read whole at every point. -/
theorem W1_apply (c : Dev nD) (t : Fin cfg0.N) (j k : Fin 128) :
    iblk m c 1 t (ix2 j k) = m ((c : Thread nD τ).loc main_arg1) (ix2 j k) := by
  rw [← V_main_arg1 m c]
  show V m c main_arg1 (((cfg0.win 1).blk t).view.emb (ix2 j k)) = _
  obtain ⟨e0, e1⟩ := index1 t
  congr 1
  funext a
  apply Fin.ext
  match a with
  | ⟨0, _⟩ =>
    show win0_1.index t (0 : Fin 2) * 128 + 1 * j.val = j.val
    omega
  | ⟨1, _⟩ =>
    show win0_1.index t (1 : Fin 2) * 128 + 1 * k.val = k.val
    omega

/-- The bias row at lane `k` is the bias's entry `k`. -/
theorem b1_apply (c : Dev nD) (t : Fin cfg0.N) (k : Fin 128) :
    iblk m c 2 t (ix2 0 k) = m ((c : Thread nD τ).loc main_arg2) (ix1 k) := by
  have h : iblk m c 2 t (ix2 0 k) = V m c main_v1 (ix2 0 k) := by
    show V m c main_v1 (((cfg0.win 2).blk t).view.emb (ix2 0 k)) = _
    obtain ⟨e0, e1⟩ := index2 t
    congr 1
    funext a
    apply Fin.ext
    match a with
    | ⟨0, _⟩ =>
      show win0_2.index t (0 : Fin 2) * 1 + 1 * 0 = 0
      omega
    | ⟨1, _⟩ =>
      show win0_2.index t (1 : Fin 2) * 128 + 1 * k.val = k.val
      omega
  rw [h, V_bias]
  pointwise

/-- The second weight row at lane `k` is the second weight column's entry `k`. -/
theorem W2_apply (c : Dev nD) (t : Fin cfg0.N) (k : Fin 128) :
    iblk m c 3 t (ix2 0 k) = m ((c : Thread nD τ).loc main_arg3) (ix2 k 0) := by
  have h : iblk m c 3 t (ix2 0 k) = V m c main_v2 (ix2 0 k) := by
    show V m c main_v2 (((cfg0.win 3).blk t).view.emb (ix2 0 k)) = _
    obtain ⟨e0, e1⟩ := index3 t
    congr 1
    funext a
    apply Fin.ext
    match a with
    | ⟨0, _⟩ =>
      show win0_3.index t (0 : Fin 2) * 1 + 1 * 0 = 0
      omega
    | ⟨1, _⟩ =>
      show win0_3.index t (1 : Fin 2) * 128 + 1 * k.val = k.val
      omega
  rw [h, V_w2]
  pointwise

/-- Entry `r` of the graph numbers' block at point `t` is the graph number of node `n = 2000 t + r`. -/
theorem batch_apply (c : Dev nD) (t : Fin cfg0.N) (r : Fin 2000) (n : Fin 100000)
    (hn : n.val = t.val * 2000 + r.val) :
    iblk m c 4 t (ix3 0 0 r) = m ((c : Thread nD τ).loc main_arg4) (ix1 n) := by
  have ht : t.val < 50 := lt_of_lt_of_eq t.isLt N_0
  have h : iblk m c 4 t (ix3 0 0 r) = V m c main_v0 (ix3 (⟨t.val, ht⟩ : Fin 50) 0 r) := by
    show V m c main_v0 (((cfg0.win 4).blk t).view.emb (ix3 0 0 r)) = _
    obtain ⟨e0, e1, e2⟩ := index4 t
    congr 1
    funext a
    apply Fin.ext
    match a with
    | ⟨0, _⟩ =>
      show win0_4.index t (0 : Fin 3) * 1 + 1 * 0 = t.val
      omega
    | ⟨1, _⟩ =>
      show win0_4.index t (1 : Fin 3) * 1 + 1 * 0 = 0
      omega
    | ⟨2, _⟩ =>
      show win0_4.index t (2 : Fin 3) * 2000 + 1 * r.val = r.val
      omega
  rw [h, V_batch]
  exact rows_apply _ ⟨t.val, ht⟩ r n hn

end Cert.Pool
-- ==== Proof.Pool.Fold.lean ====
module

public import proofs.«01_k».proof.Proof.Pool.Block
public import proofs.«01_k».proof.Proof.Pool.Inputs
public import Idealize.ShloMosaic.Lib.Pipeline.ValueKit.Acc
public import Idealize.ShloMosaic.Lib.Pipeline.ReadBack
public import Idealize.ShloMosaic.Lib.WritesUnit

@[expose] public section

/-! # What the kernel's accumulators hold, and what it stores

At each of the fifty points the two accumulators gain the point's own sums, from zero; the last point stores their
quotient. -/

namespace Cert.Pool

open Cert.KernelIdeal Cert.KernelIdeal.Gen Cert.KernelIdeal.Value Idealize.ShloMosaic Idealize.ShloMosaic.TcCoe Idealize.SL.Sem
open scoped BigOperators

variable (m : (ℓ : Loc nD τ sig) → Buf (Elt Ideal) ℓ)

/-- The first column of the denominator accumulator, the only one the body reads and writes after the reset. -/
abbrev column : Rect S256x8 := Rect.unit ![0, 0] ![256, 1] inb_S256x8_S256x1_0_0

/-- Row `g` of the column is row `g` of the accumulator at lane 0. -/
theorem column_emb (g : Fin 256) : column.emb (ix2 g 0) = ix2 g 0 := by
  funext a
  apply Fin.ext
  match a with
  | ⟨0, _⟩ =>
    show 0 + 1 * g.val = g.val
    omega
  | ⟨1, _⟩ => rfl

/-- Loading the column reads the accumulator's lane 0. -/
theorem ld_column (X : S256x8.Idx → EReal) (g : Fin 256) :
    View.ld (Val := Elt Ideal) (e' := .f32) X column (ix2 g 0) = X (ix2 g 0) := by
  show X (column.emb (ix2 g 0)) = _
  rw [column_emb]

/-- A store over the column leaves its payload there. -/
theorem column_store (f : (View.whole cc0_scratch1).ty.Contents (Elt Ideal)) (w : S256x1.Idx → EReal) (g : Fin 256) :
    View.read (Elt Ideal) (View.whole cc0_scratch1)
      ((View.whole cc0_scratch1).writes (Elt Ideal) f [⟨column, w⟩]) (ix2 g 0) = w (ix2 g 0) :=
  View.read_writes_cons_unit_of_mem (Val := Elt Ideal) (View.whole cc0_scratch1) f (off' := ![0, 0])
    inb_S256x8_S256x1_0_0 w [] (ix2 g 0) (ix2 g 0) rfl
    (fun a => by
      match a with
      | ⟨0, _⟩ => exact (Nat.zero_add _).symm
      | ⟨1, _⟩ => rfl)

/-- Loading the column after that store reads its payload. -/
theorem column_reload (w : S256x1.Idx → EReal) :
    (View.whole cc0_scratch1).readCov (Val := Elt Ideal) [⟨column, w⟩] column.toLoadRect = w :=
  View.readCov_cons_toLoadRect _ _ _ _

/-- The weights of point `t`'s nodes, for every graph. -/
noncomputable def weights (c : Dev nD) (t : Fin cfg0.N) : S256x2000.Idx → EReal :=
  k0_pay6 (F := Ideal) (iblk m c 0 t) (iblk m c 3 t) (iblk m c 1 t) (iblk m c 2 t) (iblk m c 4 t)

/-- The first point leaves its own weighted sum of rows in the numerator accumulator. -/
theorem num_first (c : Dev nD) (t : Fin cfg0.N) (h0 : t.val % 50 = 0) (g : Fin 256) (d : Fin 128) :
    (outsAt0 m c t.val t.isLt).2.1 (ix2 g d)
      = 0 + ∑ k : Fin 2000, weights m c t (ix2 g k) * iblk m c 0 t (ix2 k d) := by
  rw [outsAt0_A m c t h0 (by omega)]
  frame_out
  refine (num_apply _ _ _ _ _ _ g d).trans ?_
  rw [zeroNum_apply]
  rfl

/-- A later point adds its weighted sum of rows to what the point before left. -/
theorem num_next (c : Dev nD) (t : Fin cfg0.N) (h0 : ¬t.val % 50 = 0) (g : Fin 256) (d : Fin 128) :
    (outsAt0 m c t.val t.isLt).2.1 (ix2 g d)
      = (outsAt0 m c (t.val - 1) (Nat.lt_of_le_of_lt (Nat.sub_le _ _) t.isLt)).2.1 (ix2 g d)
        + ∑ k : Fin 2000, weights m c t (ix2 g k) * iblk m c 0 t (ix2 k d) := by
  by_cases h1 : t.val % 50 = 49
  · rw [outsAt0_C m c t h0 h1]
    frame_out
    refine (num_apply _ _ _ _ _ _ g d).trans ?_
    rw [(Memref.isWhole_whole _).read_unread]
    rfl
  · rw [outsAt0_B m c t h0 h1]
    frame_out
    refine (num_apply _ _ _ _ _ _ g d).trans ?_
    rw [(Memref.isWhole_whole _).read_unread]
    rfl

/-- The first point leaves its own sum of weights in the denominator accumulator's first column. -/
theorem den_first (c : Dev nD) (t : Fin cfg0.N) (h0 : t.val % 50 = 0) (g : Fin 256) :
    (outsAt0 m c t.val t.isLt).2.2 (ix2 g 0) = 0 + ∑ k : Fin 2000, weights m c t (ix2 g k) := by
  rw [outsAt0_A m c t h0 (by omega)]
  frame_out
  have e := View.canon_cons_emb (Val := Elt Ideal) (e := .f32) column
    (k0_pay2 (F := Ideal) (weights m c t) ((View.whole cc0_scratch1).readCov
      [⟨Rect.unit ![0, 0] ![256, 8] inb_S256x8_S256x8_0_0, k0_pay5 (F := Ideal)⟩] column.toLoadRect))
    [⟨Rect.unit ![0, 0] ![256, 8] inb_S256x8_S256x8_0_0, k0_pay5 (F := Ideal)⟩] (ix2 g 0)
  rw [column_emb] at e
  refine e.trans ((den_apply _ _ g).trans ?_)
  rw [View.readCov_fill (Val := Elt Ideal) _ _ _ _ column (by decide), ld_column, zeroDen_apply]

/-- A later point adds its sum of weights to what the point before left. -/
theorem den_next (c : Dev nD) (t : Fin cfg0.N) (h0 : ¬t.val % 50 = 0) (g : Fin 256) :
    (outsAt0 m c t.val t.isLt).2.2 (ix2 g 0)
      = (outsAt0 m c (t.val - 1) (Nat.lt_of_le_of_lt (Nat.sub_le _ _) t.isLt)).2.2 (ix2 g 0)
        + ∑ k : Fin 2000, weights m c t (ix2 g k) := by
  by_cases h1 : t.val % 50 = 49
  · rw [outsAt0_C m c t h0 h1]
    frame_out
    refine (column_store _ _ g).trans ((den_apply _ _ g).trans ?_)
    rw [ld_column, (Memref.isWhole_whole _).read_unread]
    rfl
  · rw [outsAt0_B m c t h0 h1]
    frame_out
    refine (column_store _ _ g).trans ((den_apply _ _ g).trans ?_)
    rw [ld_column, (Memref.isWhole_whole _).read_unread]
    rfl

/-- The last point stores the quotient of what it leaves in the accumulators. -/
theorem out_last (c : Dev nD) (t : Fin cfg0.N) (h1 : t.val % 50 = 49) (g : Fin 256) (d : Fin 128) :
    (outsAt0 m c t.val t.isLt).1 (ix2 g d)
      = Ideal.div ((outsAt0 m c t.val t.isLt).2.1 (ix2 g d))
          ((outsAt0 m c t.val t.isLt).2.2 (ix2 g 0) + Ideal.ofBits .f32 0x24E69595#32) := by
  rw [outsAt0_C m c t (by omega) h1]
  frame_out
  refine (quot_apply _ _ g d).trans ?_
  refine congrArg (fun z => Ideal.div _ (z + _)) ?_
  exact (congrFun (column_reload _) (ix2 g 0)).trans (column_store _ _ g).symm

/-- After the last point the numerator accumulator holds, at graph `g` and lane `d`, the fifty points' weighted sums. -/
theorem num_last (c : Dev nD) (t : Fin cfg0.N) (ht : t.val + 1 = cfg0.N) (g : Fin 256) (d : Fin 128) :
    (outsAt0 m c t.val t.isLt).2.1 (ix2 g d)
      = ∑ p : Fin cfg0.N, ∑ k : Fin 2000, weights m c p (ix2 g k) * iblk m c 0 p (ix2 k d) := by
  have h := Pipeline.eq_sum_fin_of_reset_step_apply_last
    (fun n h (i : Fin 256 × Fin 128) => (outsAt0 m c n h).2.1 (ix2 i.1 i.2)) 50 (fun _ => (0 : EReal))
    (fun p i => ∑ k : Fin 2000, weights m c p (ix2 i.1 k) * iblk m c 0 p (ix2 k i.2))
    (fun t h0 i => num_first m c t h0 i.1 i.2) (fun t h0 i => num_next m c t h0 i.1 i.2)
    (le_of_eq N_0) t ht (g, d)
  exact h.trans (zero_add _)

/-- After the last point the denominator accumulator holds, at graph `g`, the fifty points' sums of weights. -/
theorem den_last (c : Dev nD) (t : Fin cfg0.N) (ht : t.val + 1 = cfg0.N) (g : Fin 256) :
    (outsAt0 m c t.val t.isLt).2.2 (ix2 g 0)
      = ∑ p : Fin cfg0.N, ∑ k : Fin 2000, weights m c p (ix2 g k) := by
  have h := Pipeline.eq_sum_fin_of_reset_step_apply_last
    (fun n h (i : Fin 256) => (outsAt0 m c n h).2.2 (ix2 i 0)) 50 (fun _ => (0 : EReal))
    (fun p i => ∑ k : Fin 2000, weights m c p (ix2 i k))
    (fun t h0 i => den_first m c t h0 i) (fun t h0 i => den_next m c t h0 i)
    (le_of_eq N_0) t ht g
  exact h.trans (zero_add _)

/-- The kernel's result is what the last point stores. -/
theorem result_last (c : Dev nD) (n : ℕ) (hn : n < cfg0.N) (h : n = 49) : G5 m c = (outsAt0 m c n hn).1 := by
  rw [outsAt0_sweep m c n hn, G5_last m c]
  exact congrArg Prod.fst (fold0_congr m c _ _ _ _ h.symm)

/-- The result at graph `g`, lane `d`: the quotient of the two sums over the fifty points. -/
theorem result_apply (c : Dev nD) (g : Fin 256) (d : Fin 128) :
    G5 m c (ix2 g d)
      = Ideal.div (∑ p : Fin cfg0.N, ∑ k : Fin 2000, weights m c p (ix2 g k) * iblk m c 0 p (ix2 k d))
          ((∑ p : Fin cfg0.N, ∑ k : Fin 2000, weights m c p (ix2 g k)) + Ideal.ofBits .f32 0x24E69595#32) := by
  obtain ⟨t, ht⟩ : ∃ t : Fin cfg0.N, t.val = 49 := ⟨⟨49, lt_of_lt_of_eq (by decide) N_0.symm⟩, rfl⟩
  have hlast : t.val + 1 = cfg0.N := by rw [ht]; exact N_0.symm
  rw [result_last m c t.val t.isLt ht, out_last m c t (by omega) g d, num_last m c t hlast g d,
    den_last m c t hlast g]

end Cert.Pool
-- ==== Proof.Pool.Quotient.lean ====
module

public import Idealize.ShloMosaic.Lib.IdealHost
public import Idealize.ShloMosaic.PureOps.Ideal

@[expose] public section

/-! # The softmax quotient, shift by shift

The mathematics of the claim, on extended reals: a weighted sum divided by the sum of its weights plus a guard does
not depend on the shift in the exponent, once the guard is scaled by the same exponential. -/

namespace Cert.Pool

open Idealize.ShloMosaic
open scoped BigOperators

/-- A node's attention score: the second weights against the hyperbolic tangent of the affine image of its row. -/
noncomputable def score (w b : Fin 128 → EReal) (W1 : Fin 128 → Fin 128 → EReal) (x : Fin 128 → EReal) : EReal :=
  ∑ k, w k * Ideal.tanh ((∑ j, x j * W1 j k) + b k)

/-- The sum of the second weights' absolute values, which no score exceeds. -/
noncomputable def bound (w : Fin 128 → EReal) : EReal := ∑ k, max (w k) (-w k)

/-- The nodes that carry graph number `g`. -/
def nodes (B : Fin 100000 → BitVec 32) (g : Fin 256) : Finset (Fin 100000) :=
  Finset.univ.filter fun n => B n = BitVec.ofNat 32 g.val

/-- The guard's constant, the single-precision number nearest 1e-16, is a positive real. -/
theorem guard_real : ∃ ε : ℝ, 0 < ε ∧ Ideal.ofBits .f32 0x24E69595#32 = (ε : EReal) := by
  refine ⟨15111573 * (2 : ℝ) ^ (-77 : ℤ), by positivity, ?_⟩
  simp [Ideal.ofBits, Ideal.ieee, -EReal.coe_mul]

/-- A finite sum of reals, read as extended reals, is the real sum. -/
theorem sum_coe {ι : Type} (A : Finset ι) (f : ι → ℝ) : ∑ i ∈ A, (f i : EReal) = ((∑ i ∈ A, f i : ℝ) : EReal) := by
  classical
  induction A using Finset.induction_on with
  | empty => simp
  | insert a A ha ih => rw [Finset.sum_insert ha, Finset.sum_insert ha, ih, EReal.coe_add]

/-- A nonnegative real factor goes inside a sum of extended reals, whatever the terms. -/
theorem sum_mul_coe {ι : Type} (A : Finset ι) (f : ι → EReal) (r : ℝ) (hr : 0 ≤ r) :
    (∑ i ∈ A, f i) * (r : EReal) = ∑ i ∈ A, f i * (r : EReal) := by
  classical
  induction A using Finset.induction_on with
  | empty => simp
  | insert a A ha ih =>
    rw [Finset.sum_insert ha, Finset.sum_insert ha, ← ih]
    exact EReal.right_distrib_of_nonneg_of_ne_top (EReal.coe_nonneg.2 hr) (EReal.coe_ne_top r) _ _

/-- The quotient of extended reals at a positive real divisor is the product with its inverse. -/
theorem div_pos (y : EReal) (r : ℝ) (hr : 0 < r) : Ideal.div y (r : EReal) = y * ((1 / r : ℝ) : EReal) :=
  Ideal.div_coe hr.ne' y

/-- Pooling with the weights shifted by `c` and the plain guard is pooling with normalised weights shifted by `M` and
    the guard scaled by `exp (c - M)`. -/
theorem pool_shift {ι : Type} (A : Finset ι) (s : ι → ℝ) (x : ι → EReal) (c M ε : ℝ) (hε : 0 < ε) :
    Ideal.div (∑ i ∈ A, (Real.exp (s i - c) : EReal) * x i) ((∑ i ∈ A, (Real.exp (s i - c) : EReal)) + (ε : EReal))
      = ∑ i ∈ A, x i * Ideal.div (Real.exp (s i - M) : EReal)
          ((∑ j ∈ A, (Real.exp (s j - M) : EReal)) + (ε : EReal) * (Real.exp (c - M) : EReal)) := by
  have hD : 0 ≤ ∑ i ∈ A, Real.exp (s i - c) := Finset.sum_nonneg fun i _ => (Real.exp_pos _).le
  have hDM : ∑ i ∈ A, Real.exp (s i - M) = (∑ i ∈ A, Real.exp (s i - c)) * Real.exp (c - M) := by
    rw [Finset.sum_mul]
    refine Finset.sum_congr rfl fun i _ => ?_
    rw [← Real.exp_add]
    congr 1
    ring
  have hcM := Real.exp_pos (c - M)
  have hden : 0 < (∑ i ∈ A, Real.exp (s i - c)) + ε := by positivity
  have hdenM : 0 < (∑ i ∈ A, Real.exp (s i - M)) + ε * Real.exp (c - M) := by
    rw [hDM]
    positivity
  rw [sum_coe, sum_coe, ← EReal.coe_mul, ← EReal.coe_add, ← EReal.coe_add, div_pos _ _ hden,
    sum_mul_coe A _ _ (by positivity)]
  refine Finset.sum_congr rfl fun i _ => ?_
  rw [div_pos _ _ hdenM, mul_comm (Real.exp (s i - c) : EReal) (x i), mul_assoc, ← EReal.coe_mul, ← EReal.coe_mul]
  congr 2
  have he : Real.exp (s i - M) = Real.exp (s i - c) * Real.exp (c - M) := by
    rw [← Real.exp_add]
    congr 1
    ring
  rw [hDM, he, mul_one_div, mul_one_div, ← add_mul, mul_div_mul_right _ _ hcM.ne']

/-- The hyperbolic tangent of any extended real is a real. -/
theorem tanh_real (y : EReal) : ∃ r : ℝ, Ideal.tanh y = (r : EReal) := by
  induction y using EReal.rec with
  | bot => exact ⟨-1, by simp⟩
  | coe y => exact ⟨Real.tanh y, rfl⟩
  | top => exact ⟨1, by simp⟩

/-- A score is a real when the second weights are, whatever the row, the first weights and the bias. -/
theorem score_real (w : Fin 128 → ℝ) (b : Fin 128 → EReal) (W1 : Fin 128 → Fin 128 → EReal) (x : Fin 128 → EReal) :
    ∃ r : ℝ, score (fun k => (w k : EReal)) b W1 x = (r : EReal) := by
  choose t ht using fun k => tanh_real ((∑ j, x j * W1 j k) + b k)
  refine ⟨∑ k, w k * t k, ?_⟩
  rw [← sum_coe]
  exact Finset.sum_congr rfl fun k _ => by rw [ht, EReal.coe_mul]

/-- The bound is a real when the second weights are. -/
theorem bound_real (w : Fin 128 → ℝ) : ∃ r : ℝ, bound (fun k => (w k : EReal)) = (r : EReal) := by
  refine ⟨∑ k, max (w k) (-w k), ?_⟩
  rw [← sum_coe]
  exact Finset.sum_congr rfl fun k _ => by
    rw [← EReal.coe_neg]
    exact (EReal.coe_strictMono.monotone.map_max).symm

end Cert.Pool
-- ==== Proof.Pool.Kernel.lean ====
module

public import proofs.«01_k».proof.Proof.Pool.Fold
public import proofs.«01_k».proof.Proof.Pool.Quotient

@[expose] public section

/-! # The kernel's result in terms of its arguments -/

namespace Cert.Pool

open Cert.KernelIdeal Cert.KernelIdeal.Gen Cert.KernelIdeal.Value Idealize.ShloMosaic Idealize.ShloMosaic.TcCoe
  Idealize.SL.Sem
open scoped BigOperators

variable (m : (ℓ : Loc nD τ sig) → Buf (Elt Ideal) ℓ)

/-- The graph number of a node. -/
def graphOf (c : Dev nD) (n : Fin 100000) : BitVec 32 := m ((c : Thread nD τ).loc main_arg4) (ix1 n)

/-- The feature row of a node. -/
def rowOf (c : Dev nD) (n : Fin 100000) (d : Fin 128) : EReal := m ((c : Thread nD τ).loc main_arg0) (ix2 n d)

/-- The second weights. -/
def w2Of (c : Dev nD) (k : Fin 128) : EReal := m ((c : Thread nD τ).loc main_arg3) (ix2 k 0)

/-- A node's score under the arguments. -/
noncomputable def scoreOf (c : Dev nD) (n : Fin 100000) : EReal :=
  score (w2Of m c) (fun k => m ((c : Thread nD τ).loc main_arg2) (ix1 k))
    (fun j k => m ((c : Thread nD τ).loc main_arg1) (ix2 j k)) (rowOf m c n)

/-- At point `t` the weight of the block's node `r`, for graph `g`, is node `n = 2000 t + r`'s exponential when that
    node carries number `g`, else 0. -/
theorem weights_apply (c : Dev nD) (t : Fin cfg0.N) (r : Fin 2000) (g : Fin 256) (n : Fin 100000)
    (hn : n.val = t.val * 2000 + r.val) :
    weights m c t (ix2 g r)
      = if graphOf m c n = BitVec.ofNat 32 g.val then Ideal.exp (scoreOf m c n - bound (w2Of m c)) else 0 := by
  unfold weights
  rw [weight_apply, batch_apply m c t r n hn]
  simp only [W2_apply, W1_apply, b1_apply, x_apply m c t r _ n hn]
  rfl

/-- Fifty sums of 2000 are one sum over the nodes. -/
theorem sum_points (f : Fin 100000 → EReal) (F : Fin cfg0.N → Fin 2000 → EReal)
    (h : ∀ p r (n : Fin 100000), n.val = p.val * 2000 + r.val → F p r = f n) :
    ∑ p : Fin cfg0.N, ∑ r : Fin 2000, F p r = ∑ n : Fin 100000, f n := by
  have hN : cfg0.N = 50 := N_0
  rw [← Fin.sum_mul_add_fin cfg0.N 2000 f (by rw [hN])]
  exact Finset.sum_congr rfl fun p _ => Finset.sum_congr rfl fun r _ => h p r _ rfl

/-- THE KERNEL'S RESULT at graph `g`, lane `d`: over the nodes that carry `g`, the sum of rows weighted by the
    exponentials, divided by the sum of the exponentials plus the guard. -/
theorem kernel_apply (c : Dev nD) (g : Fin 256) (d : Fin 128) :
    G5 m c (ix2 g d)
      = Ideal.div
          (∑ n ∈ nodes (graphOf m c) g, Ideal.exp (scoreOf m c n - bound (w2Of m c)) * rowOf m c n d)
          ((∑ n ∈ nodes (graphOf m c) g, Ideal.exp (scoreOf m c n - bound (w2Of m c)))
            + Ideal.ofBits .f32 0x24E69595#32) := by
  rw [result_apply,
    sum_points (fun n => if graphOf m c n = BitVec.ofNat 32 g.val then
        Ideal.exp (scoreOf m c n - bound (w2Of m c)) * rowOf m c n d else 0) _
      (fun p r n hn => by
        rw [weights_apply m c p r g n hn, x_apply m c p r d n hn, ite_mul, zero_mul]
        rfl),
    sum_points (fun n => if graphOf m c n = BitVec.ofNat 32 g.val then
        Ideal.exp (scoreOf m c n - bound (w2Of m c)) else 0) _
      (fun p r n hn => weights_apply m c p r g n hn),
    ← Finset.sum_filter, ← Finset.sum_filter]
  rfl

end Cert.Pool
-- ==== Proof.Pool.Segments.lean ====
module

public import Idealize.ShloMosaic.Lib.ValueIdx
public import Idealize.ShloMosaic.Lib.Pointwise
public import Idealize.ShloMosaic.PureOps.Ideal

@[expose] public section

/-! # Rows taken and rows added by number, at one entry

The two indexed operations of the reference: a gather of one row of a column per node, and a scatter that adds one row
per node into the row its number names. -/

namespace Cert.Pool

open Idealize.ShloMosaic
open scoped BigOperators

/-- A number below 256, as a 32-bit integer, reads back signed as itself. -/
theorem toInt_ofNat (g : ℕ) (hg : g < 256) : (BitVec.ofNat 32 g).toInt = (g : ℤ) := by
  have h : (BitVec.ofNat 32 g).toNat = g := by
    rw [BitVec.toNat_ofNat]
    exact Nat.mod_eq_of_lt (by omega)
  rw [BitVec.toInt_eq_toNat_cond, h, if_pos (by omega)]

/-- A 32-bit integer reads signed as `g < 256` exactly when it is that number. -/
theorem toInt_eq_iff (b : BitVec 32) (g : ℕ) (hg : g < 256) : b.toInt = (g : ℤ) ↔ b = BitVec.ofNat 32 g := by
  rw [← toInt_ofNat g hg]
  exact ⟨fun h => BitVec.eq_of_toInt_eq h, fun h => by rw [h]⟩

section Gather

variable {G N : ℕ}
  (wf : GatherDims.WF ⟨2, ![G, 1]⟩ ⟨2, ![N, 1]⟩ ⟨2, ![N, 1]⟩ [1] [0] [] [0] [] 1 ![1, 1])

/-- The dimension numbers of taking one entry of a column per node. -/
def entryDims : GatherDims ⟨2, ![G, 1]⟩ ⟨2, ![N, 1]⟩ ⟨2, ![N, 1]⟩ where
  offsetDims := [1]
  collapsedSliceDims := [0]
  operandBatchingDims := []
  startIndicesBatchingDims := []
  startIndexMap := [0]
  indexVectorDim := 1
  sliceSizes := ![1, 1]
  wf := wf

/-- Taken at node `n`, whose number is `g`: the column's entry `g`. -/
theorem gather_entry {α : Type} (x : (⟨2, ![G, 1]⟩ : Shape).Idx → α) (idx : IVec ⟨2, ![N, 1]⟩ 32) (n : Fin N)
    (g : Fin G) (hg : (idx (ix2 n 0)).toInt = (g.val : ℤ)) :
    Host.gather (entryDims wf) x idx (ix2 n 0) = x (ix2 g 0) := by
  unfold Host.gather
  congr 1
  funext a
  match a with
  | ⟨1, _⟩ => exact Subsingleton.elim (α := Fin 1) _ _
  | ⟨0, _⟩ =>
    refine Fin.ext ?_
    show (entryDims wf).start (ix2 n 0) idx 0 + (entryDims wf).batchCoord (ix2 n 0) 0
        + (entryDims wf).offCoord (ix2 n 0) 0 = g.val
    rw [GatherDims.batchCoord_eq_zero _ _ _ (fun h => by simp [entryDims] at h),
      GatherDims.offCoord_eq_zero _ _ _ (fun h => ((GatherDims.mem_sKept _ _).mp h).1 (List.mem_singleton.mpr rfl))]
    have hm : (0 : Fin 2) ∈ (entryDims wf).startIndexMap := List.mem_singleton.mpr rfl
    have hsi : (entryDims wf).siIdx (ix2 n 0)
        ⟨List.idxOf (0 : Fin 2) (entryDims wf).startIndexMap, List.idxOf_lt_length_iff.2 hm⟩ = ix2 n 0 := by
      funext b
      refine Fin.ext ?_
      match b with
      | ⟨0, _⟩ => rfl
      | ⟨1, _⟩ => rfl
    unfold GatherDims.start
    rw [dif_pos hm, hsi, hg]
    show min ((g.val : ℤ)).toNat (G - 1) + 0 + 0 = g.val
    have := g.isLt
    omega

end Gather

section Scatter

variable {G N C : ℕ}
  (wf : ScatterDims.WF ⟨2, ![G, C]⟩ ⟨2, ![N, 1]⟩ ⟨2, ![N, C]⟩ [1] [0] [0] 1)

/-- The dimension numbers of adding one row per node. -/
def rowDims : ScatterDims ⟨2, ![G, C]⟩ ⟨2, ![N, 1]⟩ ⟨2, ![N, C]⟩ where
  updateWindowDims := [1]
  insertedWindowDims := [0]
  scatterDimsToOperandDims := [0]
  indexVectorDim := 1
  wf := wf

/-- Entry `(n, e)` of the updates lands at entry `(g, d)` exactly when node `n`'s number is `g` and `e = d`. -/
theorem lands_iff (idx : IVec ⟨2, ![N, 1]⟩ 32) (n : Fin N) (e : Fin C) (g : Fin G) (d : Fin C) :
    (rowDims wf).resultIdx? (ix2 n e) idx = some (ix2 g d) ↔ (idx (ix2 n 0)).toInt = (g.val : ℤ) ∧ e = d := by
  have hm : (0 : Fin 2) ∈ (rowDims wf).scatterDimsToOperandDims := List.mem_singleton.mpr rfl
  have s0 : (rowDims wf).start (ix2 n e) idx 0 = (idx (ix2 n 0)).toInt := by
    unfold ScatterDims.start
    rw [dif_pos hm]
    congr 2
    funext b
    refine Fin.ext ?_
    match b with
    | ⟨0, _⟩ => rfl
    | ⟨1, _⟩ => rfl
  have s1 : (rowDims wf).start (ix2 n e) idx 1 = 0 := by
    unfold ScatterDims.start
    exact dif_neg (fun h => absurd (List.mem_singleton.mp (h : (1 : Fin 2) ∈ [(0 : Fin 2)])) (by decide))
  have w0 : (rowDims wf).window (ix2 n e) 0 = 0 := by
    unfold ScatterDims.window
    exact dif_neg (by decide : ¬ (0 : Fin 2) ∈ (List.finRange 2).filter fun a => a ∉ [(0 : Fin 2)])
  have w1 : (rowDims wf).window (ix2 n e) 1 = e.val := rfl
  have hg := g.isLt
  have he := e.isLt
  unfold ScatterDims.resultIdx?
  constructor
  · intro h
    split at h
    · rename_i hin
      have h' := Option.some.inj h
      have e0 := congrArg Fin.val (congrFun h' 0)
      have e1 := congrArg Fin.val (congrFun h' 1)
      have i0 := hin 0
      simp only [s0, s1, w0, w1] at e0 e1 i0
      have e0' : ((idx (ix2 n 0)).toInt + ((0 : ℕ) : ℤ)).toNat = g.val := e0
      have e1' : ((0 : ℤ) + (e.val : ℤ)).toNat = d.val := e1
      exact ⟨by omega, Fin.ext (by omega)⟩
    · cases h
  · rintro ⟨h0, rfl⟩
    rw [dif_pos]
    · congr 1
      funext a
      refine Fin.ext ?_
      match a with
      | ⟨0, _⟩ =>
        show ((rowDims wf).start (ix2 n e) idx 0 + ((rowDims wf).window (ix2 n e) 0 : ℤ)).toNat = g.val
        rw [s0, w0, h0]
        omega
      | ⟨1, _⟩ =>
        show ((rowDims wf).start (ix2 n e) idx 1 + ((rowDims wf).window (ix2 n e) 1 : ℤ)).toNat = e.val
        rw [s1, w1]
        omega
    · intro a
      match a with
      | ⟨0, _⟩ =>
        show 0 ≤ (rowDims wf).start (ix2 n e) idx 0 + ((rowDims wf).window (ix2 n e) 0 : ℤ)
          ∧ (rowDims wf).start (ix2 n e) idx 0 + ((rowDims wf).window (ix2 n e) 0 : ℤ) < (G : ℤ)
        rw [s0, w0, h0]
        omega
      | ⟨1, _⟩ =>
        show 0 ≤ (rowDims wf).start (ix2 n e) idx 1 + ((rowDims wf).window (ix2 n e) 1 : ℤ)
          ∧ (rowDims wf).start (ix2 n e) idx 1 + ((rowDims wf).window (ix2 n e) 1 : ℤ) < (C : ℤ)
        rw [s1, w1]
        omega

/-- Added up at entry `(g, d)`: what was there and the entries `(n, d)` of the nodes whose number is `g`. -/
theorem scatter_row (x : (⟨2, ![G, C]⟩ : Shape).Idx → EReal) (idx : IVec ⟨2, ![N, 1]⟩ 32)
    (upd : (⟨2, ![N, C]⟩ : Shape).Idx → EReal) (g : Fin G) (d : Fin C) :
    Host.scatterAdd (F := Ideal) (φ := .f32) (rowDims wf) x idx upd (ix2 g d)
      = x (ix2 g d)
        + ∑ n ∈ Finset.univ.filter (fun n : Fin N => (idx (ix2 n 0)).toInt = (g.val : ℤ)), upd (ix2 n d) := by
  show Ideal.hostScatterAdd (rowDims wf) x idx upd (ix2 g d) = _
  unfold Ideal.hostScatterAdd
  congr 1
  refine Finset.sum_nbij' (fun j => (j 0 : Fin N)) (fun n => ix2 n d) ?_ ?_ ?_ ?_ ?_
  · intro j hj
    obtain ⟨h0, -⟩ := (lands_iff wf idx (j 0) (j 1) g d).mp (by rw [ix2_eta]; exact (Finset.mem_filter.mp hj).2)
    exact Finset.mem_filter.mpr ⟨Finset.mem_univ _, h0⟩
  · intro n hn
    exact Finset.mem_filter.mpr ⟨Finset.mem_univ _, (lands_iff wf idx n d g d).mpr ⟨(Finset.mem_filter.mp hn).2, rfl⟩⟩
  · intro j hj
    obtain ⟨-, h1⟩ := (lands_iff wf idx (j 0) (j 1) g d).mp (by rw [ix2_eta]; exact (Finset.mem_filter.mp hj).2)
    exact (congrArg (fun z : Fin C => ix2 (j 0 : Fin N) z) h1.symm).trans (ix2_eta j)
  · intro n _
    rfl
  · intro j hj
    obtain ⟨-, h1⟩ := (lands_iff wf idx (j 0) (j 1) g d).mp (by rw [ix2_eta]; exact (Finset.mem_filter.mp hj).2)
    exact congrArg upd ((congrArg (fun z : Fin C => ix2 (j 0 : Fin N) z) h1.symm).trans (ix2_eta j)).symm

end Scatter

end Cert.Pool
-- ==== Proof.Pool.Stages.lean ====
module

public import proofs.«01_k».proof.Proof.Gen.ReferenceIdeal.Run
public import proofs.«01_k».proof.Proof.Pool.Quotient
public import proofs.«01_k».proof.Proof.Pool.Segments
public import Idealize.ShloMosaic.Lib.Pointwise
public import Idealize.ShloMosaic.Lib.IdealHost

@[expose] public section

/-! # The reference, stage by stage

The reference's composed term cut at its named intermediate arrays, and each stage read at one entry. -/

namespace Cert.Pool.Ref

open Cert.ReferenceIdeal Cert.ReferenceIdeal.Gen Cert.ReferenceIdeal.Value Idealize.ShloMosaic Idealize.ShloMosaic.TcCoe
  Idealize.SL.Sem
open scoped BigOperators

variable (X : FVec Ideal S100000x128 .f32) (W1 : FVec Ideal S128x128 .f32) (b1 : FVec Ideal S128 .f32)
  (W2 : FVec Ideal S128x1 .f32) (B : IVec S100000 32)

/-- The attention scores. -/
noncomputable def scores : FVec Ideal S100000x1 .f32 :=
  Host.dotGeneral dot_S100000x128_S128x1_S100000x1_1_0_0_1_n_n none
    (Host.tanh (addf (Host.dotGeneral dot_S100000x128_S128x128_S100000x128_1_0_0_1_n_n none X W1)
      (broadcastInDim S100000x128 ![0, 1] bcast_S1x128_S100000x128_0_1
        (broadcastInDim S1x128 ![1] bcast_S128_S1x128_1 b1)))) W2

/-- The graph numbers as a column. -/
def column : IVec S100000x1 32 := broadcastInDim S100000x1 ![0] bcast_S100000_S100000x1_0 B

/-- The graph numbers as positions of a 256-row table, a negative one counted from its end. -/
def positions : IVec S100000x1 32 :=
  broadcastInDim S100000x1 ![0] bcast_S100000_S100000x1_0
    (select (cmpi .slt B (broadcastInDim S100000 ![] bcast_S_S100000 (constantI S_ 32 0#32)))
      (addi B (broadcastInDim S100000 ![] bcast_S_S100000 (constantI S_ 32 256#32))) B)

/-- The largest score of each graph. -/
noncomputable def top : FVec Ideal S256x1 .f32 :=
  broadcastInDim S256x1 ![0] bcast_S256_S256x1_0
    (Host.reduce FloatOps.maximumf
      (select
        (cmpi .eq (broadcastInDim S100000x256 ![0, 1] bcast_S100000x1_S100000x256_0_1 (column B))
          (broadcastInDim S100000x256 ![0, 1] bcast_S1x256_S100000x256_0_1
            (broadcastInDim S1x256 ![1] bcast_S256_S1x256_1 (iotaInDim S256 32 0))))
        (broadcastInDim S100000x256 ![0, 1] bcast_S100000x1_S100000x256_0_1 (scores X W1 b1 W2))
        (broadcastInDim S100000x256 ![] bcast_S_S100000x256 (id (constant S_ .f32 0xFF800000#32))))
      (constant S_ .f32 0xFF800000#32) reducesTo_S100000x256_S256_d0 h_S_)

/-- The shift of each graph: its largest score where that is finite, else zero. -/
noncomputable def shift : FVec Ideal S256x1 .f32 :=
  select (cmpf .olt (Host.absf (top X W1 b1 W2 B)) (broadcastInDim S256x1 ![] bcast_S_S256x1 (constant S_ .f32 0x7F800000#32)))
    (top X W1 b1 W2 B)
    (broadcastInDim S256x1 ![] bcast_S_S256x1 (id (constant S_ .f32 0x00000000#32)))

/-- The shifted exponentials. -/
noncomputable def exps : FVec Ideal S100000x1 .f32 :=
  Host.exp (subf (scores X W1 b1 W2)
    (Host.gather gather_S256x1_S100000x1_S100000x1_1_0_n_n_0_1_11 (shift X W1 b1 W2 B) (positions B)))

/-- The sum of each graph's shifted exponentials. -/
noncomputable def denom : FVec Ideal S256x1 .f32 :=
  Host.scatterAdd scatter_S256x1_S100000x1_S100000x1_1_0_0_1
    (broadcastInDim S256x1 ![] bcast_S_S256x1 (constant S_ .f32 0x00000000#32)) (column B) (exps X W1 b1 W2 B)

/-- The guard of each graph, scaled by the exponential of its shift's distance from the bound. -/
noncomputable def guard : FVec Ideal S256x1 .f32 :=
  mulf (broadcastInDim S256x1 ![] bcast_S_S256x1 (constant S_ .f32 0x24E69595#32))
    (Host.exp (subf
      (broadcastInDim S256x1 ![] bcast_S_S256x1
        (Host.reduceAdd (Host.absf W2) (constant S_ .f32 0x00000000#32) reducesTo_S128x1_S_d0_1 h_S_))
      (shift X W1 b1 W2 B)))

/-- The attention weights. -/
noncomputable def attn : FVec Ideal S100000x1 .f32 :=
  Host.divf (exps X W1 b1 W2 B)
    (addf (Host.gather gather_S256x1_S100000x1_S100000x1_1_0_n_n_0_1_11 (denom X W1 b1 W2 B) (positions B))
      (Host.gather gather_S256x1_S100000x1_S100000x1_1_0_n_n_0_1_11 (guard X W1 b1 W2 B) (positions B)))

/-- The pooled rows. -/
noncomputable def pooled : FVec Ideal S256x128 .f32 :=
  Host.scatterAdd scatter_S256x128_S100000x1_S100000x128_1_0_0_1
    (broadcastInDim S256x128 ![] bcast_S_S256x128 (constant S_ .f32 0x00000000#32)) (column B)
    (mulf X (broadcastInDim S100000x128 ![0, 1] bcast_S100000x1_S100000x128_0_1
      (broadcastInDim S100000x1 ![0] bcast_S100000_S100000x1_0
        (shapeCast S100000 (attn X W1 b1 W2 B) shapeCasts_S100000x1_S100000))))

/-- The reference's result is the last stage at its arguments. -/
theorem result_eq (m : (ℓ : Loc nD τ sig) → Buf (Elt Ideal) ℓ) (c : Dev nD) :
    res_out0 m c
      = pooled (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold res_out0 res_main_v60
  rfl

/-- A node's score under the arguments. -/
noncomputable def scoreAt (n : Fin 100000) : EReal :=
  score (fun k => W2 (ix2 k 0)) (fun k => b1 (ix1 k)) (fun j k => W1 (ix2 j k)) (fun d => X (ix2 n d))

/-- The scores, read at a node. -/
theorem scores_apply (n : Fin 100000) : scores X W1 b1 W2 (ix2 n 0) = scoreAt X W1 b1 W2 n := by
  unfold scores scoreAt score
  pointwise
  exact Finset.sum_congr rfl fun k _ => mul_comm _ _

/-- The graph numbers' column, read at a node. -/
theorem column_apply (n : Fin 100000) : column B (ix2 n 0) = B (ix1 n) := by
  unfold column
  pointwise

/-- A node that carries number `g` below 256 has position `g`. -/
theorem positions_apply (n : Fin 100000) (g : Fin 256) (h : B (ix1 n) = BitVec.ofNat 32 g.val) :
    (positions B (ix2 n 0)).toInt = (g.val : ℤ) := by
  unfold positions
  pointwise
  have hc : IntOp.cmpi .slt (BitVec.ofNat 32 g.val) 0#32 = 0#1 := by
    have h0 : ¬ (BitVec.ofNat 32 g.val).toInt < (0#32).toInt := by
      rw [toInt_ofNat g.val g.isLt]
      simp
    simp only [IntOp.cmpi, BitVec.slt, decide_eq_false h0]
    rfl
  rw [h, hc]
  exact toInt_ofNat g.val g.isLt

/-- A column kept where it is finite and zero elsewhere holds reals only. -/
theorem finite_or_zero (M : FVec Ideal S256x1 .f32) (i : S256x1.Idx) :
    ∃ r : ℝ, select (cmpf .olt (Host.absf M) (broadcastInDim S256x1 ![] bcast_S_S256x1 (constant S_ .f32 0x7F800000#32)))
      M (broadcastInDim S256x1 ![] bcast_S_S256x1 (id (constant S_ .f32 0x00000000#32))) i = (r : EReal) := by
  have htop : Ideal.ofBits .f32 0x7F800000#32 = ⊤ := by simp [Ideal.ofBits, Ideal.ieee]
  show ∃ r : ℝ, Scalar.select (BitVec.ofBool (decide (max (M i) (-M i) < Ideal.ofBits .f32 0x7F800000#32))) (M i)
    (Ideal.ofBits .f32 0x00000000#32) = (r : EReal)
  rw [htop]
  by_cases h : max (M i) (-M i) < ⊤
  · rw [decide_eq_true h]
    have h1 : M i ≠ ⊤ := ((le_max_left _ _).trans_lt h).ne
    have h2 : M i ≠ ⊥ := fun e => by
      have := (le_max_right (M i) (-M i)).trans_lt h
      rw [e, EReal.neg_bot] at this
      exact lt_irrefl _ this
    exact ⟨(M i).toReal, (EReal.coe_toReal h1 h2).symm⟩
  · rw [decide_eq_false h]
    exact ⟨0, Ideal.ofBits_zero_f32⟩

/-- The shift of a graph is a real. -/
theorem shift_real (g : Fin 256) : ∃ r : ℝ, shift X W1 b1 W2 B (ix2 g 0) = (r : EReal) :=
  finite_or_zero (top X W1 b1 W2 B) (ix2 g 0)

/-- The guard, read at a graph. -/
theorem guard_apply (g : Fin 256) :
    guard X W1 b1 W2 B (ix2 g 0)
      = Ideal.ofBits .f32 0x24E69595#32 * Ideal.exp (bound (fun k => W2 (ix2 k 0)) - shift X W1 b1 W2 B (ix2 g 0)) := by
  have hb : ∑ k : Fin 128, ∑ u : Fin 1, max (W2 (ix2 k u)) (-W2 (ix2 k u)) = bound (fun k => W2 (ix2 k 0)) :=
    Finset.sum_congr rfl fun k _ => Fin.sum_univ_one _
  unfold guard
  generalize shift X W1 b1 W2 B = M
  pointwise
  exact congrArg (fun z => Ideal.ofBits .f32 0x24E69595#32 * Ideal.exp (z - M (ix2 g 0))) hb

/-- The exponential of a node that carries number `g`, shifted by that graph's shift. -/
theorem exps_apply (n : Fin 100000) (g : Fin 256) (h : B (ix1 n) = BitVec.ofNat 32 g.val) :
    exps X W1 b1 W2 B (ix2 n 0) = Ideal.exp (scoreAt X W1 b1 W2 n - shift X W1 b1 W2 B (ix2 g 0)) := by
  have hg := gather_entry gather_S256x1_S100000x1_S100000x1_1_0_n_n_0_1_11.wf (shift X W1 b1 W2 B) (positions B) n g
    (positions_apply B n g h)
  show Ideal.exp (scores X W1 b1 W2 (ix2 n 0)
    - Host.gather gather_S256x1_S100000x1_S100000x1_1_0_n_n_0_1_11 (shift X W1 b1 W2 B) (positions B) (ix2 n 0)) = _
  rw [scores_apply]
  exact congrArg (fun z => Ideal.exp (scoreAt X W1 b1 W2 n - z)) hg

/-- The nodes a scatter by graph number adds into row `g` are those that carry number `g`. -/
theorem members_eq (g : Fin 256) :
    (Finset.univ.filter fun n : Fin 100000 => (column B (ix2 n 0)).toInt = (g.val : ℤ)) = nodes (fun n => B (ix1 n)) g := by
  ext n
  simp only [nodes, Finset.mem_filter, Finset.mem_univ, true_and, column_apply]
  exact toInt_eq_iff _ _ g.isLt

/-- A graph's sum of exponentials runs over its own nodes. -/
theorem denom_apply (g : Fin 256) :
    denom X W1 b1 W2 B (ix2 g 0)
      = ∑ n ∈ nodes (fun n => B (ix1 n)) g, Ideal.exp (scoreAt X W1 b1 W2 n - shift X W1 b1 W2 B (ix2 g 0)) := by
  have hs := scatter_row scatter_S256x1_S100000x1_S100000x1_1_0_0_1.wf
    (broadcastInDim S256x1 ![] bcast_S_S256x1 (constant (F := Ideal) S_ .f32 0x00000000#32)) (column B)
    (exps X W1 b1 W2 B) g 0
  refine Eq.trans hs ?_
  rw [show broadcastInDim S256x1 ![] bcast_S_S256x1 (constant (F := Ideal) S_ .f32 0x00000000#32) (ix2 g 0) = (0 : EReal)
    from Ideal.ofBits_zero_f32, zero_add, members_eq]
  exact Finset.sum_congr rfl fun n hn => exps_apply X W1 b1 W2 B n g (Finset.mem_filter.mp hn).2

/-- The attention weight of a node that carries number `g`: its exponential over its graph's sum and guard. -/
theorem attn_apply (n : Fin 100000) (g : Fin 256) (h : B (ix1 n) = BitVec.ofNat 32 g.val) :
    attn X W1 b1 W2 B (ix2 n 0)
      = Ideal.div (Ideal.exp (scoreAt X W1 b1 W2 n - shift X W1 b1 W2 B (ix2 g 0)))
          (denom X W1 b1 W2 B (ix2 g 0) + guard X W1 b1 W2 B (ix2 g 0)) := by
  have hp := positions_apply B n g h
  have hd := gather_entry gather_S256x1_S100000x1_S100000x1_1_0_n_n_0_1_11.wf (denom X W1 b1 W2 B) (positions B) n g hp
  have hg := gather_entry gather_S256x1_S100000x1_S100000x1_1_0_n_n_0_1_11.wf (guard X W1 b1 W2 B) (positions B) n g hp
  unfold attn
  refine (Idealize.ShloMosaic.ValueIdx.hostDivf_apply _ _ _).trans ?_
  exact congrArg₂ Ideal.div (exps_apply X W1 b1 W2 B n g h) (congrArg₂ (· + ·) hd hg)

/-- A column of weights laid along the lanes: at node `n`, any lane, it is the node's weight. -/
theorem lanes_apply (A : FVec Ideal S100000x1 .f32) (n : Fin 100000) (d : Fin 128) :
    broadcastInDim S100000x128 ![0, 1] bcast_S100000x1_S100000x128_0_1
      (broadcastInDim S100000x1 ![0] bcast_S100000_S100000x1_0 (shapeCast S100000 A shapeCasts_S100000x1_S100000))
      (ix2 n d) = A (ix2 n 0) := by
  have hc : shapeCast S100000 A shapeCasts_S100000x1_S100000 (ix1 n) = A (ix2 n 0) := by
    refine shapeCast_apply A _ _ _ ?_
    rw [Shape.rowMajor_val_two, Shape.rowMajor_val_one]
    show n.val * 1 + 0 = n.val
    omega
  rw [← hc]
  generalize shapeCast S100000 A shapeCasts_S100000x1_S100000 = y
  refine (broadcastInDim_apply _ _ _ (ix2 n d) (ix2 n 0) fun a => ?_).trans
    (broadcastInDim_apply _ _ y (ix2 n 0) (ix1 n) fun a => ?_)
  · match a with
    | ⟨0, _⟩ => exact (if_neg (by norm_num)).symm
    | ⟨1, _⟩ => rfl
  · match a with
    | ⟨0, _⟩ => exact (if_neg (by norm_num)).symm

/-- THE REFERENCE'S RESULT at graph `g`, lane `d`: over the nodes that carry `g`, the sum of rows times attention
    weights. -/
theorem pooled_apply (g : Fin 256) (d : Fin 128) :
    pooled X W1 b1 W2 B (ix2 g d)
      = ∑ n ∈ nodes (fun n => B (ix1 n)) g, X (ix2 n d)
          * Ideal.div (Ideal.exp (scoreAt X W1 b1 W2 n - shift X W1 b1 W2 B (ix2 g 0)))
              ((∑ j ∈ nodes (fun n => B (ix1 n)) g,
                  Ideal.exp (scoreAt X W1 b1 W2 j - shift X W1 b1 W2 B (ix2 g 0)))
                + Ideal.ofBits .f32 0x24E69595#32
                  * Ideal.exp (bound (fun k => W2 (ix2 k 0)) - shift X W1 b1 W2 B (ix2 g 0))) := by
  have hs := scatter_row scatter_S256x128_S100000x1_S100000x128_1_0_0_1.wf
    (broadcastInDim S256x128 ![] bcast_S_S256x128 (constant (F := Ideal) S_ .f32 0x00000000#32)) (column B)
    (mulf X (broadcastInDim S100000x128 ![0, 1] bcast_S100000x1_S100000x128_0_1
      (broadcastInDim S100000x1 ![0] bcast_S100000_S100000x1_0
        (shapeCast S100000 (attn X W1 b1 W2 B) shapeCasts_S100000x1_S100000)))) g d
  refine Eq.trans hs ?_
  rw [show broadcastInDim S256x128 ![] bcast_S_S256x128 (constant (F := Ideal) S_ .f32 0x00000000#32) (ix2 g d)
    = (0 : EReal) from Ideal.ofBits_zero_f32, zero_add, members_eq]
  refine Finset.sum_congr rfl fun n hn => ?_
  refine congrArg (fun z => X (ix2 n d) * z) ((lanes_apply _ n d).trans ?_)
  rw [attn_apply X W1 b1 W2 B n g (Finset.mem_filter.mp hn).2, denom_apply, guard_apply]

end Cert.Pool.Ref
-- ==== Proof.Pool.Tie.lean ====
module

public import proofs.«01_k».proof.Proof.Pool.Kernel
public import proofs.«01_k».proof.Proof.Pool.Stages

@[expose] public section

/-! # The kernel's result is the reference's -/

namespace Cert.Pool

open Idealize.ShloMosaic Idealize.ShloMosaic.TcCoe Idealize.SL.Sem
open scoped BigOperators

/-- An extended real whose absolute value is not infinity is a real. -/
theorem real_of_abs_ne (a : EReal) (h : max a (-a) ≠ ⊤) : ∃ r : ℝ, a = (r : EReal) := by
  have h1 : a ≠ ⊤ := fun e => h (by rw [e]; exact top_le_iff.1 (le_max_left _ _))
  have h2 : a ≠ ⊥ := fun e => h (by rw [e, EReal.neg_bot]; exact top_le_iff.1 (le_max_right _ _))
  exact ⟨a.toReal, (EReal.coe_toReal h1 h2).symm⟩

/-- The absolute value of an extended real is not negative. -/
theorem abs_nonneg' (a : EReal) : 0 ≤ max a (-a) := by
  rcases le_total 0 a with h | h
  · exact h.trans (le_max_left _ _)
  · exact (EReal.neg_nonneg.2 h).trans (le_max_right _ _)

/-- A bound with an infinite entry is infinite. -/
theorem bound_top (w2 : Fin 128 → EReal) (k : Fin 128) (h : max (w2 k) (-w2 k) = ⊤) : bound w2 = ⊤ := by
  refine top_le_iff.1 (h ▸ ?_)
  exact Finset.single_le_sum (f := fun k => max (w2 k) (-w2 k)) (fun i _ => abs_nonneg' _) (Finset.mem_univ k)

/-- An exponential is not negative. -/
theorem exp_nonneg (a : EReal) : 0 ≤ Ideal.exp a := by
  induction a using EReal.rec with
  | bot => exact le_refl _
  | coe r => rw [Ideal.exp_coe]; exact EReal.coe_nonneg.2 (Real.exp_pos r).le
  | top => exact le_top

/-- With an infinite bound the kernel's exponentials vanish, and so does its quotient. -/
theorem kernel_top (s x : Fin 100000 → EReal) (A : Finset (Fin 100000)) (ε : ℝ) (hε : 0 < ε) :
    Ideal.div (∑ n ∈ A, Ideal.exp (s n - ⊤) * x n) ((∑ n ∈ A, Ideal.exp (s n - ⊤)) + (ε : EReal)) = 0 := by
  have h0 : ∀ a : EReal, Ideal.exp (a - ⊤) = 0 := fun a => by rw [EReal.sub_top]; rfl
  simp only [h0, zero_mul, Finset.sum_const_zero, zero_add]
  rw [Ideal.div, if_neg (EReal.coe_ne_zero.2 hε.ne'), zero_mul]

/-- With an infinite bound the reference's guard is infinite, so its weights vanish, and so does its sum. -/
theorem reference_top (s x : Fin 100000 → EReal) (A : Finset (Fin 100000)) (M ε : ℝ) (hε : 0 < ε) :
    ∑ n ∈ A, x n * Ideal.div (Ideal.exp (s n - M)) ((∑ j ∈ A, Ideal.exp (s j - M)) + (ε : EReal) * Ideal.exp (⊤ - M))
      = 0 := by
  have hs : 0 ≤ ∑ j ∈ A, Ideal.exp (s j - M) := Finset.sum_nonneg fun j _ => exp_nonneg _
  have ht : Ideal.exp (⊤ - (M : EReal)) = ⊤ := by rw [EReal.top_sub_coe]; rfl
  have hd : (∑ j ∈ A, Ideal.exp (s j - M)) + (ε : EReal) * Ideal.exp (⊤ - M) = ⊤ := by
    rw [ht, EReal.coe_mul_top_of_pos hε]
    exact EReal.add_top_of_ne_bot (fun e => by rw [e] at hs; exact absurd hs (by simp))
  rw [hd]
  refine Finset.sum_eq_zero fun n _ => ?_
  rw [Ideal.div, if_neg EReal.top_ne_zero, EReal.inv_top, mul_zero, mul_zero]

/-- The two quotients agree: softmax pooling does not depend on the number subtracted from the scores, as long as the
    guard is scaled with it. Every argument is any extended real: where a second weight is infinite, both sides are
    zero. -/
theorem quotient_eq (w2 b1 : Fin 128 → EReal) (W1 : Fin 128 → Fin 128 → EReal) (X : Fin 100000 → Fin 128 → EReal)
    (A : Finset (Fin 100000)) (d : Fin 128) (M : EReal) (hM : ∃ r : ℝ, M = (r : EReal)) :
    Ideal.div (∑ n ∈ A, Ideal.exp (score w2 b1 W1 (X n) - bound w2) * X n d)
        ((∑ n ∈ A, Ideal.exp (score w2 b1 W1 (X n) - bound w2)) + Ideal.ofBits .f32 0x24E69595#32)
      = ∑ n ∈ A, X n d * Ideal.div (Ideal.exp (score w2 b1 W1 (X n) - M))
          ((∑ j ∈ A, Ideal.exp (score w2 b1 W1 (X j) - M))
            + Ideal.ofBits .f32 0x24E69595#32 * Ideal.exp (bound w2 - M)) := by
  obtain ⟨M, rfl⟩ := hM
  obtain ⟨ε, hε, hg⟩ := guard_real
  by_cases htop : ∃ k, max (w2 k) (-w2 k) = ⊤
  · obtain ⟨k, hk⟩ := htop
    rw [bound_top w2 k hk, hg]
    exact (kernel_top _ (fun n => X n d) A ε hε).trans (reference_top _ (fun n => X n d) A M ε hε).symm
  choose w hw using fun k => real_of_abs_ne (w2 k) fun h => htop ⟨k, h⟩
  obtain rfl : w2 = fun k => (w k : EReal) := funext hw
  obtain ⟨c, hc⟩ := bound_real w
  choose s hs using fun n => score_real w b1 W1 (X n)
  simp only [hs, hc, hg, ← EReal.coe_sub, Ideal.exp_coe]
  exact pool_shift A s (fun n => X n d) c M ε hε

/-- THE TIE: from memories that agree on the arguments, the reference's result is the kernel's. -/
theorem tie (m : (ℓ : Loc Cert.KernelIdeal.nD Cert.KernelIdeal.τ Cert.KernelIdeal.sig) → Buf (Elt Ideal) ℓ)
    (c : Dev Cert.KernelIdeal.nD) :
    Ref.pooled (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Value.G5 m c := by
  funext i
  obtain ⟨g, d, rfl⟩ : ∃ (g : Fin 256) (d : Fin 128), i = ix2 g d := ⟨i 0, i 1, (ix2_eta i).symm⟩
  rw [Ref.pooled_apply, kernel_apply]
  exact (quotient_eq (w2Of m c) _ _ (rowOf m c) (nodes (graphOf m c) g) d _ (Ref.shift_real _ _ _ _ _ g)).symm

end Cert.Pool
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Pool.Tie
public import Idealize.ShloMosaic.Adequacy
public import Idealize.ShloMosaic.Init
public import Idealize.ShloMosaic.Lib.Quiescent

@[expose] public section

/-! # The claim -/

noncomputable section

namespace Cert.Proof

open Idealize.ShloMosaic Idealize.SL.Sem

/-- The reference runs to its end, its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE CLAIM: the kernel and the reference end with the same pooled rows. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨h0, h1, h2, h3, h4⟩ := hagree c
  refine (h c).1.trans ((Cert.Pool.Ref.result_eq m' c).trans ?_)
  rw [h0, h1, h2, h3, h4]
  exact Cert.Pool.tie m c

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  quiescent_ReferenceIdeal, (trivial : preserves_Kernel_KernelIdeal),
  algebraic_KernelIdeal_ReferenceIdeal⟩

end Cert.Proof

end
